-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_one [hPre_zero_one : Cert.Pre_zero_one.Facts] (m : (ℓ : Loc Cert.KernelIdeal.nD Cert.KernelIdeal.τ Cert.KernelIdeal.sig) → Buf (Elt Ideal) ℓ) : Prop :=
  ∀ c : Dev Cert.KernelIdeal.nD,
    (Cert.Pre_zero_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_one [hPre_zero_one : Cert.Pre_zero_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_zero_one [hKernelIdeal : Cert.KernelIdeal.Facts] [hPre_zero_one : Cert.Pre_zero_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_zero_one [hReferenceIdeal : Cert.ReferenceIdeal.Facts] [hPre_zero_one : Cert.Pre_zero_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_zero_one [hKernelIdeal : Cert.KernelIdeal.Facts] [hReferenceIdeal : Cert.ReferenceIdeal.Facts] [hPre_zero_one : Cert.Pre_zero_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_zero_one : Cert.Pre_zero_one.Facts),
    quiescent_Kernel (hKernel := hKernel)
    ∧ quiescent_KernelIdeal (hKernelIdeal := hKernelIdeal)
    ∧ quiescent_KernelIdeal_pre_zero_one (hKernelIdeal := hKernelIdeal) (hPre_zero_one := hPre_zero_one)
    ∧ quiescent_ReferenceIdeal (hReferenceIdeal := hReferenceIdeal)
    ∧ quiescent_ReferenceIdeal_pre_zero_one (hReferenceIdeal := hReferenceIdeal) (hPre_zero_one := hPre_zero_one)
    ∧ preserves_Kernel_KernelIdeal
    ∧ algebraic_KernelIdeal_ReferenceIdeal_pre_zero_one (hKernelIdeal := hKernelIdeal) (hReferenceIdeal := hReferenceIdeal) (hPre_zero_one := hPre_zero_one)
-- ==== Pre_zero_one.lean ====
abbrev S16x2048x128 : Shape := ⟨3, ![16, 2048, 128]⟩
abbrev S16x2048x512 : Shape := ⟨3, ![16, 2048, 512]⟩
abbrev S16x512 : Shape := ⟨2, ![16, 512]⟩
abbrev S512x1x128 : Shape := ⟨3, ![512, 1, 128]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : FVec F S16x2048x128 .f32) (main_arg1 : FVec F S16x2048x512 .f32) (main_arg2 : FVec F S16x512 .f32) (main_arg3 : FVec F S512x1x128 .f32) : IVec S_ 1 :=
  let main_cst : FVec F S_ .f32 := constant S_ .f32 0x00000000#32
  let main_v0 : FVec F S16x2048x512 .f32 := broadcastInDim S16x2048x512 ![] bcast_S_S16x2048x512 main_cst
  let main_v1 : IVec S16x2048x512 1 := cmpf .oeq main_arg1 main_v0
  let main_cst_0 : FVec F S_ .f32 := constant S_ .f32 0x3F800000#32
  let main_v2 : FVec F S16x2048x512 .f32 := broadcastInDim S16x2048x512 ![] bcast_S_S16x2048x512 main_cst_0
  let main_v3 : IVec S16x2048x512 1 := cmpf .oeq main_arg1 main_v2
  let main_v4 : IVec S16x2048x512 1 := ori main_v1 main_v3
  let main_c : IVec S_ 1 := constantI S_ 1 1#1
  let main_v5 : IVec S_ 1 := (fun x v => Host.reduce IntOp.andi x v reducesTo_S16x2048x512_S_d0_1_2 h_S_) main_v4 main_c
  let main_cst_1 : FVec F S_ .f32 := constant S_ .f32 0x00000000#32
  let main_v6 : FVec F S16x512 .f32 := broadcastInDim S16x512 ![] bcast_S_S16x512 main_cst_1
  let main_v7 : IVec S16x512 1 := cmpf .oeq main_arg2 main_v6
  let main_cst_2 : FVec F S_ .f32 := constant S_ .f32 0x3F800000#32
  let main_v8 : FVec F S16x512 .f32 := broadcastInDim S16x512 ![] bcast_S_S16x512 main_cst_2
  let main_v9 : IVec S16x512 1 := cmpf .oeq main_arg2 main_v8
  let main_v10 : IVec S16x512 1 := ori main_v7 main_v9
  let main_c_3 : IVec S_ 1 := constantI S_ 1 1#1
  let main_v11 : IVec S_ 1 := (fun x v => Host.reduce IntOp.andi x v reducesTo_S16x512_S_d0_1 h_S_) main_v10 main_c_3
  let main_v12 : IVec S_ 1 := andi main_v5 main_v11
  main_v12
-- ==== Kernel.lean ====
abbrev S16x2048x128 : Shape := ⟨3, ![16, 2048, 128]⟩
abbrev S16x2048x512 : Shape := ⟨3, ![16, 2048, 512]⟩
abbrev S16x512 : Shape := ⟨2, ![16, 512]⟩
abbrev S512x1x128 : Shape := ⟨3, ![512, 1, 128]⟩
abbrev S16x2x1024x512 : Shape := ⟨4, ![16, 2, 1024, 512]⟩
abbrev S16x1x512 : Shape := ⟨3, ![16, 1, 512]⟩
abbrev S512x128 : Shape := ⟨2, ![512, 128]⟩
abbrev S2x1x1024x512 : Shape := ⟨4, ![2, 1, 1024, 512]⟩
abbrev S2x2048x128 : Shape := ⟨3, ![2, 2048, 128]⟩
abbrev S2x1x512 : Shape := ⟨3, ![2, 1, 512]⟩
abbrev S128x512 : Shape := ⟨2, ![128, 512]⟩
abbrev S1x512 : Shape := ⟨2, ![1, 512]⟩
abbrev S1x1x1024x512 : Shape := ⟨4, ![1, 1, 1024, 512]⟩
abbrev S1024x512 : Shape := ⟨2, ![1024, 512]⟩
abbrev S1x2048x128 : Shape := ⟨3, ![1, 2048, 128]⟩
abbrev S2048x128 : Shape := ⟨2, ![2048, 128]⟩
abbrev S1x1x512 : Shape := ⟨3, ![1, 1, 512]⟩
abbrev S512 : Shape := ⟨1, ![512]⟩
abbrev S1024x128 : Shape := ⟨2, ![1024, 128]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S16x2048x128, .f32⟩
  | .hbm, ⟨1, _⟩ => ⟨S16x2048x512, .f32⟩
  | .hbm, ⟨2, _⟩ => ⟨S16x512, .f32⟩
  | .hbm, ⟨3, _⟩ => ⟨S512x1x128, .f32⟩
  | .hbm, ⟨4, _⟩ => ⟨S16x2x1024x512, .f32⟩
  | .hbm, ⟨5, _⟩ => ⟨S16x1x512, .f32⟩
  | .hbm, ⟨6, _⟩ => ⟨S512x128, .f32⟩
  | .hbm, ⟨7, _⟩ => ⟨S512x128, .f32⟩
  | .local _ .vmem, ⟨0, _⟩ => ⟨S2x1x1024x512, .f32⟩
  | .local _ .vmem, ⟨1, _⟩ => ⟨S2x1x1024x512, .f32⟩
  | .local _ .vmem, ⟨2, _⟩ => ⟨S2x1x1024x512, .f32⟩
  | .local _ .vmem, ⟨3, _⟩ => ⟨S2x1x1024x512, .f32⟩
  | .local _ .vmem, ⟨4, _⟩ => ⟨S2x2048x128, .f32⟩
  | .local _ .vmem, ⟨5, _⟩ => ⟨S2x2048x128, .f32⟩
  | .local _ .vmem, ⟨6, _⟩ => ⟨S2x1x512, .f32⟩
  | .local _ .vmem, ⟨7, _⟩ => ⟨S2x1x512, .f32⟩
  | .local _ .vmem, ⟨8, _⟩ => ⟨S512x128, .f32⟩
  | .local _ .vmem, ⟨9, _⟩ => ⟨S512x128, .f32⟩
  | .local _ .vmem, ⟨10, _⟩ => ⟨S128x512, .f32⟩
  | .local _ .vmem, ⟨11, _⟩ => ⟨S1x512, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v69 : BitVec 1 := Scalar.cmpi .eq arg0 c7_i32
  let v70 : BitVec 32 := Scalar.extui v69
  let c0_i32_50 : BitVec 32 := 0#32
  let v71 : BitVec 1 := Scalar.cmpi .ne v70 c0_i32_50
  v71

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S16x2048x128 : Shape := ⟨3, ![16, 2048, 128]⟩
abbrev S16x2048x512 : Shape := ⟨3, ![16, 2048, 512]⟩
abbrev S16x512 : Shape := ⟨2, ![16, 512]⟩
abbrev S512x1x128 : Shape := ⟨3, ![512, 1, 128]⟩
abbrev S_ : Shape := ⟨0, ![]⟩
abbrev S16x1x512 : Shape := ⟨3, ![16, 1, 512]⟩
abbrev S512x128 : Shape := ⟨2, ![512, 128]⟩
abbrev S512 : Shape := ⟨1, ![512]⟩
abbrev S512x1 : Shape := ⟨2, ![512, 1]⟩
abbrev S512x1x1 : Shape := ⟨3, ![512, 1, 1]⟩

abbrev nBuf : Space → Nat
  | .hbm => 38
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x512, .f32⟩
  | .hbm, ⟨2, _⟩ => ⟨S16x512, .f32⟩
  | .hbm, ⟨3, _⟩ => ⟨S512x1x128, .f32⟩
  | .hbm, ⟨4, _⟩ => ⟨S_, .f32⟩
  | .hbm, ⟨5, _⟩ => ⟨S16x2048x512, .f32⟩
  | .hbm, ⟨6, _⟩ => ⟨S16x2048x512, .i1⟩
  | .hbm, ⟨7, _⟩ => ⟨S16x1x512, .f32⟩
  | .hbm, ⟨8, _⟩ => ⟨S_, .f32⟩
  | .hbm, ⟨9, _⟩ => ⟨S16x1x512, .f32⟩
  | .hbm, ⟨10, _⟩ => ⟨S16x1x512, .i1⟩
  | .hbm, ⟨11, _⟩ => ⟨S16x2048x512, .i1⟩
  | .hbm, ⟨12, _⟩ => ⟨S16x2048x512, .i1⟩
  | .hbm, ⟨13, _⟩ => ⟨S16x2048x512, .f32⟩
  | .hbm, ⟨14, _⟩ => ⟨S512x128, .f32⟩
  | .hbm, ⟨15, _⟩ => ⟨S_, .f32⟩
  | .hbm, ⟨16, _⟩ => ⟨S512, .f32⟩
  | .hbm, ⟨17, _⟩ => ⟨S_, .f32⟩
  | .hbm, ⟨18, _⟩ => ⟨S512, .f32⟩
  | .hbm, ⟨19, _⟩ => ⟨S512, .i1⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S512x1, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x1x128, .f32⟩
  | .hbm, ⟨28, _⟩ => ⟨S512x1x128, .f32⟩
  | .hbm, ⟨29, _⟩ => ⟨S512x1x128, .f32⟩
  | .hbm, ⟨30, _⟩ => ⟨S_, .f32⟩
  | .hbm, ⟨31, _⟩ => ⟨S512x1x128, .f32⟩
  | .hbm, ⟨32, _⟩ => ⟨S512x1x128, .f32⟩
  | .hbm, ⟨33, _⟩ => ⟨S512x1x128, .f32⟩
  | .hbm, ⟨34, _⟩ => ⟨S512x1x1, .i1⟩
  | .hbm, ⟨35, _⟩ => ⟨S512x1x128, .i1⟩
  | .hbm, ⟨36, _⟩ => ⟨S512x1x128, .f32⟩
  | .hbm, ⟨37, _⟩ => ⟨S512x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Proof.Precondition.lean ====
/- The precondition, read at one index. -/
module

public import proofs.«01_k».proof.Proof.Gen.Pre_zero_one
public import Idealize.ShloMosaic.Lib.ReduceAll
public import Idealize.ShloMosaic.Lib.Pointwise
public import Idealize.ShloMosaic.Lib.ValueIdx
public import Idealize.ShloMosaic.Lib.IdealHost

@[expose] public section

noncomputable section

namespace Cert.Pre_zero_one

open Cert.Pre_zero_one.Gen Idealize.ShloMosaic

/-- A decided bit that is 1 says its proposition. -/
theorem of_bit {P : Prop} [Decidable P] (h : BitVec.ofBool (decide P) = 1#1) : P := by
  by_contra hp
  rw [decide_eq_false hp] at h
  exact absurd h (by decide)

/-- The precondition says that every activation and every label is 0 or 1. -/
theorem holds (f : FVec Ideal S16x2048x128 .f32) (a : FVec Ideal S16x2048x512 .f32) (v : FVec Ideal S16x512 .f32)
    (p : FVec Ideal S512x1x128 .f32) (h : fn f a v p = fun _ => 1#1) :
    (∀ (b : Fin 16) (t : Fin 2048) (k : Fin 512), a (ix3 b t k) = 0 ∨ a (ix3 b t k) = 1)
    ∧ ∀ (b : Fin 16) (k : Fin 512), v (ix2 b k) = 0 ∨ v (ix2 b k) = 1 := by
  have : Subsingleton S_.Idx := ⟨fun x y => funext fun i => i.elim0⟩
  obtain ⟨ea, ev⟩ := IntOp.andi_eq_one.1 (congrFun h ix0)
  refine ⟨fun b t k => ?_, fun b k => ?_⟩
  · have e := Host.reduce_andi_all _ _ _ _ _ ea (ix3 b t k)
    pointwise at e
    exact (IntOp.ori_eq_one.1 e).imp of_bit of_bit
  · have e := Host.reduce_andi_all _ _ _ _ _ ev (ix2 b k)
    pointwise at e
    exact (IntOp.ori_eq_one.1 e).imp of_bit of_bit

end Cert.Pre_zero_one
-- ==== Proof.K.Steps.lean ====
/- What one grid point leaves in the two carried accumulators and, at the last point, in the output block:
   the stores found by the run, read back as compositions of the kernel's own arithmetic. -/
module

public import proofs.«01_k».proof.Proof.Gen.KernelIdeal.Value
public import Idealize.ShloMosaic.Lib.Tactic

@[expose] public section

set_option maxRecDepth 16384

noncomputable section

namespace Cert.KernelIdeal.Update

open Cert.KernelIdeal Cert.KernelIdeal.Gen Idealize.ShloMosaic Idealize.ShloMosaic.TcCoe Idealize.SL.Sem

variable {F : FTy → Type} [FloatOps F]

/-- The offsets of a whole block of rank 2 are zero. -/
theorem zero_off2 : (![0, 0] : Fin 2 → Nat) = fun _ => 0 := funext fun a => by fin_cases a <;> rfl

/-- The first batch row of a block of activations. -/
def act0 (x : Vec F S2x1x1024x512 .f32) : Vec F S1x1x1024x512 .f32 :=
  View.ld x (Rect.unit ![0, 0, 0, 0] S1x1x1024x512.size inb_S2x1x1024x512_S1x1x1024x512_0_0_0_0)
/-- The second batch row of a block of activations. -/
def act1 (x : Vec F S2x1x1024x512 .f32) : Vec F S1x1x1024x512 .f32 :=
  View.ld x (Rect.unit ![1, 0, 0, 0] S1x1x1024x512.size inb_S2x1x1024x512_S1x1x1024x512_1_0_0_0)
/-- The first batch row of a block of features. -/
def feat0 (x : Vec F S2x2048x128 .f32) : Vec F S1x2048x128 .f32 :=
  View.ld x (Rect.unit ![0, 0, 0] S1x2048x128.size inb_S2x2048x128_S1x2048x128_0_0_0)
/-- The second batch row of a block of features. -/
def feat1 (x : Vec F S2x2048x128 .f32) : Vec F S1x2048x128 .f32 :=
  View.ld x (Rect.unit ![1, 0, 0] S1x2048x128.size inb_S2x2048x128_S1x2048x128_1_0_0)
/-- The first batch row of a block of labels. -/
def vid0 (x : Vec F S2x1x512 .f32) : Vec F S1x1x512 .f32 :=
  View.ld x (Rect.unit ![0, 0, 0] S1x1x512.size inb_S2x1x512_S1x1x512_0_0_0)
/-- The second batch row of a block of labels. -/
def vid1 (x : Vec F S2x1x512 .f32) : Vec F S1x1x512 .f32 :=
  View.ld x (Rect.unit ![1, 0, 0] S1x1x512.size inb_S2x1x512_S1x1x512_1_0_0)

/-- The feature accumulator after a point that found `s` in it. -/
def stepSum (x0 x1 : Vec F S2x1x1024x512 .f32) (x2 : Vec F S2x2048x128 .f32) (x3 : Vec F S2x1x512 .f32)
    (s : Vec F S128x512 .f32) : Vec F S128x512 .f32 :=
  k0_pay15 (act1 x0) (act1 x1) (feat1 x2) (vid1 x3) (k0_pay8 (act0 x0) (act0 x1) (feat0 x2) (vid0 x3) s)

/-- The counter after a point that found `s` in it. -/
def stepCnt (x0 x1 : Vec F S2x1x1024x512 .f32) (x3 : Vec F S2x1x512 .f32) (s : Vec F S1x512 .f32) : Vec F S1x512 .f32 :=
  k0_pay1 (k0_pay11 s (k0_pay9 (vid0 x3)) (k0_pay10 (act0 x0) (act0 x1))) (k0_pay16 (vid1 x3)) (k0_pay17 (act1 x0)) (k0_pay18 (act1 x1))

section
variable (c : Dev nD) (i : grid0.Coords) (a1 : Memref sig .tc .vmem S2x1x1024x512 .f32) (h1 : a1.IsWhole)
    (a2 : Memref sig .tc .vmem S2x1x1024x512 .f32) (h2 : a2.IsWhole) (a3 : Memref sig .tc .vmem S2x2048x128 .f32) (h3 : a3.IsWhole)
    (a4 : Memref sig .tc .vmem S2x1x512 .f32) (h4 : a4.IsWhole) (a5 : Memref sig .tc .vmem S512x128 .f32) (h5 : a5.IsWhole)
    (a6 : Memref sig .tc .vmem S512x128 .f32) (h6 : a6.IsWhole) (a7 : Memref sig .tc .vmem S128x512 .f32) (h7 : a7.IsWhole)
    (a8 : Memref sig .tc .vmem S1x512 .f32) (h8 : a8.IsWhole)
    (x0 : Vec F S2x1x1024x512 .f32) (x1 : Vec F S2x1x1024x512 .f32) (x2 : Vec F S2x2048x128 .f32) (x3 : Vec F S2x1x512 .f32)
    (x4 : Vec F S512x128 .f32) (s0 : Vec F S128x512 .f32) (s1 : Vec F S1x512 .f32)

/-- A middle point's feature accumulator. -/
theorem sum_B (hc0 : ¬cond0_0 i) (hc1 : ¬cond0_1 i) :
    sout0_B_0 c i a1 h1 a2 h2 a3 h3 a4 h4 a5 h5 a6 h6 a7 h7 a8 h8 hc0 hc1 x0 x1 x2 x3 x4 s0 s1 = stepSum x0 x1 x2 x3 s0 := by
  unfold sout0_B_0
  rw [View.read_writes_eq_canon _ _ _ (scover0_B_0 c i a1 h1 a2 h2 a3 h3 a4 h4 a5 h5 a6 h6 a7 h7 a8 h8 hc0 hc1 x0 x1 x2 x3 x4 s0 s1)]
  unfold kernelRun0_B
  dsimp only
  sl_unfold_words
  rw [View.canon_cons_unit_zero (S := S128x512) zero_off2, View.readCov_unit_zero (S := S128x512) _ zero_off2]
  simp only [View.readAt_eq_ld, h1.read_unread, h2.read_unread, h3.read_unread, h4.read_unread, h7.read_unread,
    View.ld_unit_zero (S := S128x512) zero_off2]
  rfl

/-- A middle point's counter. -/
theorem cnt_B (hc0 : ¬cond0_0 i) (hc1 : ¬cond0_1 i) :
    sout0_B_1 c i a1 h1 a2 h2 a3 h3 a4 h4 a5 h5 a6 h6 a7 h7 a8 h8 hc0 hc1 x0 x1 x2 x3 x4 s0 s1 = stepCnt x0 x1 x3 s1 := by
  unfold sout0_B_1
  rw [View.read_writes_eq_canon _ _ _ (scover0_B_1 c i a1 h1 a2 h2 a3 h3 a4 h4 a5 h5 a6 h6 a7 h7 a8 h8 hc0 hc1 x0 x1 x2 x3 x4 s0 s1)]
  unfold kernelRun0_B
  dsimp only
  sl_unfold_words
  rw [View.canon_cons_unit_zero (S := S1x512) zero_off2, View.readCov_unit_zero (S := S1x512) _ zero_off2]
  simp only [View.readAt_eq_ld, h1.read_unread, h2.read_unread, h4.read_unread, h8.read_unread,
    View.ld_unit_zero (S := S1x512) zero_off2]
  rfl

/-- The first point's feature accumulator: a step from the zero block. -/
theorem sum_A (hc0 : cond0_0 i) (hc1 : ¬cond0_1 i) :
    sout0_A_0 c i a1 h1 a2 h2 a3 h3 a4 h4 a5 h5 a6 h6 a7 h7 a8 h8 hc0 hc1 x0 x1 x2 x3 x4 = stepSum x0 x1 x2 x3 k0_pay3 := by
  unfold sout0_A_0
  rw [View.read_writes_eq_canon _ _ _ (scover0_A_0 c i a1 h1 a2 h2 a3 h3 a4 h4 a5 h5 a6 h6 a7 h7 a8 h8 hc0 hc1 x0 x1 x2 x3 x4)]
  unfold kernelRun0_A
  dsimp only
  sl_unfold_words
  simp only [View.canon_cons_unit_zero (S := S128x512) zero_off2, View.readCov_unit_zero (S := S128x512) _ zero_off2,
    View.readCov_cons_toLoadRect]
  simp only [View.readAt_eq_ld, h1.read_unread, h2.read_unread, h3.read_unread, h4.read_unread, h7.read_unread,
    View.ld_unit_zero (S := S128x512) zero_off2]
  rfl

/-- The first point's counter: a step from the zero block. -/
theorem cnt_A (hc0 : cond0_0 i) (hc1 : ¬cond0_1 i) :
    sout0_A_1 c i a1 h1 a2 h2 a3 h3 a4 h4 a5 h5 a6 h6 a7 h7 a8 h8 hc0 hc1 x0 x1 x2 x3 x4 = stepCnt x0 x1 x3 k0_pay4 := by
  unfold sout0_A_1
  rw [View.read_writes_eq_canon _ _ _ (scover0_A_1 c i a1 h1 a2 h2 a3 h3 a4 h4 a5 h5 a6 h6 a7 h7 a8 h8 hc0 hc1 x0 x1 x2 x3 x4)]
  unfold kernelRun0_A
  dsimp only
  sl_unfold_words
  simp only [View.canon_cons_unit_zero (S := S1x512) zero_off2, View.readCov_unit_zero (S := S1x512) _ zero_off2,
    View.readCov_cons_toLoadRect]
  simp only [View.readAt_eq_ld, h1.read_unread, h2.read_unread, h4.read_unread, h8.read_unread,
    View.ld_unit_zero (S := S1x512) zero_off2]
  rfl

/-- The output block of the last point: the update of the prototypes by the finished accumulators. -/
theorem out_C (hc0 : ¬cond0_0 i) (hc1 : cond0_1 i) :
    out0_C_5 c i a1 h1 a2 h2 a3 h3 a4 h4 a5 h5 a6 h6 a7 h7 a8 h8 hc0 hc1 x0 x1 x2 x3 x4 s0 s1
      = k0_pay2 (stepCnt x0 x1 x3 s1) (stepSum x0 x1 x2 x3 s0) x4 := by
  unfold out0_C_5
  rw [View.read_writes_eq_canon _ _ _ (cover0_C_5 c i a1 h1 a2 h2 a3 h3 a4 h4 a5 h5 a6 h6 a7 h7 a8 h8 hc0 hc1 x0 x1 x2 x3 x4 s0 s1)]
  unfold kernelRun0_C
  dsimp only
  sl_unfold_words
  rw [View.canon_cons_unit_zero (S := S512x128) zero_off2]
  simp only [View.readCov_unit_zero (S := S1x512) _ zero_off2, View.readCov_unit_zero (S := S128x512) _ zero_off2,
    View.readCov_cons_toLoadRect]
  simp only [View.readAt_eq_ld, h1.read_unread, h2.read_unread, h3.read_unread, h4.read_unread, h5.read_unread,
    h7.read_unread, h8.read_unread, View.ld_unit_zero (S := S128x512) zero_off2, View.ld_unit_zero (S := S1x512) zero_off2,
    View.ld_unit_zero (S := S512x128) zero_off2]
  rfl
end

end Cert.KernelIdeal.Update
-- ==== Proof.K.Payloads.lean ====
/- What the kernel body's stored values are at one index, over the extended reals. -/
module

public import proofs.«01_k».proof.Proof.K.Steps
public import Idealize.ShloMosaic.Lib.Pointwise
public import Idealize.ShloMosaic.Lib.ValueIdx
public import Idealize.ShloMosaic.Lib.IdealHost
public import Idealize.ShloMosaic.Lib.Pipeline.ValueKit

@[expose] public section

set_option maxRecDepth 16384

noncomputable section

namespace Cert.KernelIdeal.Update

open Cert.KernelIdeal Cert.KernelIdeal.Gen Idealize.ShloMosaic

/-- One batch row added to the feature accumulator, at an index. -/
theorem pay8_apply (a0 a1 : Vec Ideal S1x1x1024x512 .f32) (f : Vec Ideal S1x2048x128 .f32) (v : Vec Ideal S1x1x512 .f32)
    (s : Vec Ideal S128x512 .f32) (d : Fin 128) (k : Fin 512) :
    k0_pay8 a0 a1 f v s (ix2 d k) = s (ix2 d k) + v (ix3 0 0 k) *
      ((∑ t : Fin 1024, f (ix3 0 (Fin.castAdd 1024 t) d) * a0 (ix4 0 0 t k))
        + ∑ t : Fin 1024, f (ix3 0 (Fin.natAdd 1024 t) d) * a1 (ix4 0 0 t k)) := by
  unfold_payloads
  pointwise
  rfl

/-- The second batch row is added by the same term as the first. -/
theorem pay15_eq_pay8 (a0 a1 : Vec Ideal S1x1x1024x512 .f32) (f : Vec Ideal S1x2048x128 .f32) (v : Vec Ideal S1x1x512 .f32)
    (s : Vec Ideal S128x512 .f32) : k0_pay15 a0 a1 f v s = k0_pay8 a0 a1 f v s := rfl

/-- The activations of the first batch row, at an index. -/
theorem act0_apply (x : Vec Ideal S2x1x1024x512 .f32) (t : Fin 1024) (k : Fin 512) : act0 x (ix4 0 0 t k) = x (ix4 0 0 t k) := by
  show x _ = _
  blk_ext
  all_goals first | rfl | exact (Nat.zero_add _).trans (Nat.one_mul _)

/-- The activations of the second batch row, at an index. -/
theorem act1_apply (x : Vec Ideal S2x1x1024x512 .f32) (t : Fin 1024) (k : Fin 512) : act1 x (ix4 0 0 t k) = x (ix4 1 0 t k) := by
  show x _ = _
  blk_ext
  all_goals first | rfl | exact (Nat.zero_add _).trans (Nat.one_mul _)

/-- The features of the first batch row, at an index. -/
theorem feat0_apply (x : Vec Ideal S2x2048x128 .f32) (t : Fin 2048) (d : Fin 128) : feat0 x (ix3 0 t d) = x (ix3 0 t d) := by
  show x _ = _
  blk_ext
  all_goals first | rfl | exact (Nat.zero_add _).trans (Nat.one_mul _)

/-- The features of the second batch row, at an index. -/
theorem feat1_apply (x : Vec Ideal S2x2048x128 .f32) (t : Fin 2048) (d : Fin 128) : feat1 x (ix3 0 t d) = x (ix3 1 t d) := by
  show x _ = _
  blk_ext
  all_goals first | rfl | exact (Nat.zero_add _).trans (Nat.one_mul _)

/-- The labels of the first batch row, at an index. -/
theorem vid0_apply (x : Vec Ideal S2x1x512 .f32) (k : Fin 512) : vid0 x (ix3 0 0 k) = x (ix3 0 0 k) := by
  show x _ = _
  blk_ext
  all_goals first | rfl | exact (Nat.zero_add _).trans (Nat.one_mul _)

/-- The labels of the second batch row, at an index. -/
theorem vid1_apply (x : Vec Ideal S2x1x512 .f32) (k : Fin 512) : vid1 x (ix3 0 0 k) = x (ix3 1 0 k) := by
  show x _ = _
  blk_ext
  all_goals first | rfl | exact (Nat.zero_add _).trans (Nat.one_mul _)

/-- Both batch rows of a grid point added to the feature accumulator, at an index. -/
theorem stepSum_apply (x0 x1 : Vec Ideal S2x1x1024x512 .f32) (x2 : Vec Ideal S2x2048x128 .f32) (x3 : Vec Ideal S2x1x512 .f32)
    (s : Vec Ideal S128x512 .f32) (d : Fin 128) (k : Fin 512) :
    stepSum x0 x1 x2 x3 s (ix2 d k) = s (ix2 d k)
      + x3 (ix3 0 0 k) * ((∑ t : Fin 1024, x2 (ix3 0 (Fin.castAdd 1024 t) d) * x0 (ix4 0 0 t k))
        + ∑ t : Fin 1024, x2 (ix3 0 (Fin.natAdd 1024 t) d) * x1 (ix4 0 0 t k))
      + x3 (ix3 1 0 k) * ((∑ t : Fin 1024, x2 (ix3 1 (Fin.castAdd 1024 t) d) * x0 (ix4 1 0 t k))
        + ∑ t : Fin 1024, x2 (ix3 1 (Fin.natAdd 1024 t) d) * x1 (ix4 1 0 t k)) := by
  unfold stepSum
  rw [pay15_eq_pay8, pay8_apply, pay8_apply]
  simp only [act0_apply, act1_apply, feat0_apply, feat1_apply, vid0_apply, vid1_apply]

/-- Both batch rows of a grid point added to the counter, at an index. -/
theorem stepCnt_apply (x0 x1 : Vec Ideal S2x1x1024x512 .f32) (x3 : Vec Ideal S2x1x512 .f32)
    (s : Vec Ideal S1x512 .f32) (k : Fin 512) :
    stepCnt x0 x1 x3 s (ix2 0 k) = s (ix2 0 k)
      + x3 (ix3 0 0 k) * ((∑ t : Fin 1024, x0 (ix4 0 0 t k)) + ∑ t : Fin 1024, x1 (ix4 0 0 t k))
      + x3 (ix3 1 0 k) * ((∑ t : Fin 1024, x0 (ix4 1 0 t k)) + ∑ t : Fin 1024, x1 (ix4 1 0 t k)) := by
  unfold stepCnt
  unfold_payloads
  pointwise [Ideal.multiReduction_add_single]
  simp only [act0_apply, act1_apply, vid0_apply, vid1_apply]

/-- The closing update, at an index: a prototype that was seen moves towards the mean feature, another stays. -/
theorem pay2_apply (n : Vec Ideal S1x512 .f32) (s : Vec Ideal S128x512 .f32) (p : Vec Ideal S512x128 .f32) (k : Fin 512) (d : Fin 128) :
    k0_pay2 n s p (ix2 k d) = if 0 < n (ix2 0 k) then
        Ideal.ofBits FTy.f32 0x3F7FBE77#32 * p (ix2 k d)
          + Ideal.ofBits FTy.f32 0x3A83126F#32 * Ideal.div (s (ix2 d k)) (max (n (ix2 0 k)) 1)
      else p (ix2 k d) := by
  unfold_payloads
  pointwise

/-- The feature accumulator starts at zero. -/
theorem pay3_apply (d : Fin 128) (k : Fin 512) : (k0_pay3 (F := Ideal)) (ix2 d k) = 0 := by
  unfold_payloads
  pointwise

/-- The counter starts at zero. -/
theorem pay4_apply (k : Fin 512) : (k0_pay4 (F := Ideal)) (ix2 0 k) = 0 := by
  unfold_payloads
  pointwise

end Cert.KernelIdeal.Update
-- ==== Proof.K.Blocks.lean ====
/- What each window's block holds at one index, in the arguments' own indices. -/
module

public import proofs.«01_k».proof.Proof.Gen.KernelIdeal.Value
public import Idealize.ShloMosaic.Lib.Pointwise
public import Idealize.ShloMosaic.Lib.ValueIdx
public import Idealize.ShloMosaic.Lib.Claim
public import Idealize.ShloMosaic.Lib.Pipeline.ValueKit

@[expose] public section

set_option maxRecDepth 16384

noncomputable section

namespace Cert.KernelIdeal.Update

open Cert.KernelIdeal Cert.KernelIdeal.Gen Idealize.ShloMosaic Idealize.ShloMosaic.TcCoe

variable (m : (ℓ : Loc nD τ sig) → Buf (Elt Ideal) ℓ) (c : Dev nD)

/-- Where each input window stands at each grid point. -/
theorem idx_in : ∀ t : Fin cfg0.N,
    (win0_0.index t = ![t.val, 0, 0, 0] ∧ win0_1.index t = ![t.val, 1, 0, 0])
    ∧ win0_2.index t = ![t.val, 0, 0] ∧ win0_3.index t = ![t.val, 0, 0] ∧ win0_4.index t = ![0, 0] :=
  (by decide +kernel : ∀ t : Fin grid0.N, _)

/-- The first half of the activations of batch row `2n + i`. -/
theorem iblk0_apply (t : Fin cfg0.N) (i : Fin 2) (r : Fin 1024) (k : Fin 512) (b : Fin 16) (hb : b.val = 2 * t.val + i.val) :
    iblk m c 0 t (ix4 i 0 r k) = m ((c : Thread nD τ).loc main_arg1) (ix3 b (Fin.castAdd 1024 r) k) := by
  blk_ext! [iblk, V, (idx_in t).1.1]
  simp

/-- The second half of the activations of batch row `2n + i`. -/
theorem iblk1_apply (t : Fin cfg0.N) (i : Fin 2) (r : Fin 1024) (k : Fin 512) (b : Fin 16) (hb : b.val = 2 * t.val + i.val) :
    iblk m c 1 t (ix4 i 0 r k) = m ((c : Thread nD τ).loc main_arg1) (ix3 b (Fin.natAdd 1024 r) k) := by
  blk_ext! [iblk, V, (idx_in t).1.2]
  simp [Nat.add_comm]

/-- The features of batch row `2n + i`. -/
theorem iblk2_apply (t : Fin cfg0.N) (i : Fin 2) (r : Fin 2048) (d : Fin 128) (b : Fin 16) (hb : b.val = 2 * t.val + i.val) :
    iblk m c 2 t (ix3 i r d) = m ((c : Thread nD τ).loc main_arg0) (ix3 b r d) := by
  blk_ext [iblk, V, (idx_in t).2.1]

/-- The labels of batch row `2n + i`. -/
theorem iblk3_apply (t : Fin cfg0.N) (i : Fin 2) (k : Fin 512) (b : Fin 16) (hb : b.val = 2 * t.val + i.val) :
    iblk m c 3 t (ix3 i 0 k) = m ((c : Thread nD τ).loc main_arg2) (ix2 b k) := by
  blk_ext! [iblk, V, (idx_in t).2.2.1]

/-- The prototypes, whole at every grid point. -/
theorem iblk4_apply (t : Fin cfg0.N) (k : Fin 512) (d : Fin 128) :
    iblk m c 4 t (ix2 k d) = m ((c : Thread nD τ).loc main_arg3) (ix3 k 0 d) := by
  blk_ext! [iblk, V, (idx_in t).2.2.2]

end Cert.KernelIdeal.Update
-- ==== Proof.K.Result.lean ====
/- The two carried accumulators over the grid, and the array the kernel leaves. -/
module

public import proofs.«01_k».proof.Proof.K.Payloads
public import proofs.«01_k».proof.Proof.K.Blocks

@[expose] public section

set_option maxRecDepth 16384

noncomputable section

namespace Cert.KernelIdeal.Update

open Cert.KernelIdeal Cert.KernelIdeal.Gen Cert.KernelIdeal.Value Idealize.ShloMosaic Idealize.ShloMosaic.TcCoe

/-- What batch row `b` adds to the feature sum of class `k`: its label times the row's weighted features. -/
def rowSum (f : Vec Ideal S16x2048x128 .f32) (a : Vec Ideal S16x2048x512 .f32) (v : Vec Ideal S16x512 .f32)
    (d : Fin 128) (k : Fin 512) (b : Fin 16) : EReal :=
  v (ix2 b k) * ∑ t : Fin 2048, f (ix3 b t d) * a (ix3 b t k)

/-- What batch row `b` adds to the count of class `k`: its label times the row's activations. -/
def rowCnt (a : Vec Ideal S16x2048x512 .f32) (v : Vec Ideal S16x512 .f32) (k : Fin 512) (b : Fin 16) : EReal :=
  v (ix2 b k) * ∑ t : Fin 2048, a (ix3 b t k)

variable (m : (ℓ : Loc nD τ sig) → Buf (Elt Ideal) ℓ) (c : Dev nD)

/-- The features as launched. -/
abbrev feats : Vec Ideal S16x2048x128 .f32 := m ((c : Thread nD τ).loc main_arg0)
/-- The activations as launched. -/
abbrev acts : Vec Ideal S16x2048x512 .f32 := m ((c : Thread nD τ).loc main_arg1)
/-- The labels as launched. -/
abbrev vids : Vec Ideal S16x512 .f32 := m ((c : Thread nD τ).loc main_arg2)
/-- The prototypes as launched. -/
abbrev protos : Vec Ideal S512x1x128 .f32 := m ((c : Thread nD τ).loc main_arg3)

/-- The batch row numbered `n`, the count wrapping at 16. -/
def row (n : ℕ) : Fin 16 := ⟨n % 16, Nat.mod_lt _ (by decide)⟩

/-- The first batch row of a grid point. -/
theorem row_even (t : Fin cfg0.N) : (row (2 * t.val)).val = 2 * t.val + (0 : Fin 2).val := by
  have := lt_of_lt_of_eq t.isLt (show cfg0.N = 8 from N_0)
  show 2 * t.val % 16 = 2 * t.val + 0
  omega

/-- The second batch row of a grid point. -/
theorem row_odd (t : Fin cfg0.N) : (row (2 * t.val + 1)).val = 2 * t.val + (1 : Fin 2).val := by
  have := lt_of_lt_of_eq t.isLt (show cfg0.N = 8 from N_0)
  show (2 * t.val + 1) % 16 = 2 * t.val + 1
  omega

/-- A grid point adds its two batch rows to the feature accumulator. -/
theorem point_sum (t : Fin cfg0.N) (s : Vec Ideal S128x512 .f32) (d : Fin 128) (k : Fin 512) :
    stepSum (iblk m c 0 t) (iblk m c 1 t) (iblk m c 2 t) (iblk m c 3 t) s (ix2 d k)
      = s (ix2 d k) + rowSum (feats m c) (acts m c) (vids m c) d k (row (2 * t.val))
        + rowSum (feats m c) (acts m c) (vids m c) d k (row (2 * t.val + 1)) := by
  rw [stepSum_apply]
  simp only [iblk0_apply m c t 0 _ _ _ (row_even t), iblk0_apply m c t 1 _ _ _ (row_odd t),
    iblk1_apply m c t 0 _ _ _ (row_even t), iblk1_apply m c t 1 _ _ _ (row_odd t),
    iblk2_apply m c t 0 _ _ _ (row_even t), iblk2_apply m c t 1 _ _ _ (row_odd t),
    iblk3_apply m c t 0 _ _ (row_even t), iblk3_apply m c t 1 _ _ (row_odd t)]
  unfold rowSum
  rw [Fin.sum_univ_add (a := 1024) (b := 1024), Fin.sum_univ_add (a := 1024) (b := 1024)]

/-- A grid point adds its two batch rows to the counter. -/
theorem point_cnt (t : Fin cfg0.N) (s : Vec Ideal S1x512 .f32) (k : Fin 512) :
    stepCnt (iblk m c 0 t) (iblk m c 1 t) (iblk m c 3 t) s (ix2 0 k)
      = s (ix2 0 k) + rowCnt (acts m c) (vids m c) k (row (2 * t.val)) + rowCnt (acts m c) (vids m c) k (row (2 * t.val + 1)) := by
  rw [stepCnt_apply]
  simp only [iblk0_apply m c t 0 _ _ _ (row_even t), iblk0_apply m c t 1 _ _ _ (row_odd t),
    iblk1_apply m c t 0 _ _ _ (row_even t), iblk1_apply m c t 1 _ _ _ (row_odd t),
    iblk3_apply m c t 0 _ _ (row_even t), iblk3_apply m c t 1 _ _ (row_odd t)]
  unfold rowCnt
  rw [Fin.sum_univ_add (a := 1024) (b := 1024), Fin.sum_univ_add (a := 1024) (b := 1024)]

/-- Before the last grid point, each accumulator holds the sum over the batch rows seen so far. -/
theorem carried : ∀ (n : ℕ) (h : n < cfg0.N), n < 7 →
    (∀ (d : Fin 128) (k : Fin 512), (outsAt0 m c n h).2.1 (ix2 d k)
      = ∑ b ∈ Finset.range (2 * n + 2), rowSum (feats m c) (acts m c) (vids m c) d k (row b))
    ∧ ∀ k : Fin 512, (outsAt0 m c n h).2.2 (ix2 0 k)
      = ∑ b ∈ Finset.range (2 * n + 2), rowCnt (acts m c) (vids m c) k (row b)
  | 0, h, _ => by
    rw [outsAt0_A m c ⟨0, h⟩ (Nat.zero_mod 8) (by show ¬0 % 8 = 7; decide)]
    dsimp only
    rw [sum_A, cnt_A]
    refine ⟨fun d k => ?_, fun k => ?_⟩
    · rw [point_sum m c ⟨0, h⟩, pay3_apply, Finset.sum_range_succ, Finset.sum_range_succ, Finset.sum_range_zero]
      rfl
    · rw [point_cnt m c ⟨0, h⟩, pay4_apply, Finset.sum_range_succ, Finset.sum_range_succ, Finset.sum_range_zero]
      rfl
  | n + 1, h, hn => by
    obtain ⟨i0, i1⟩ := carried n (Nat.lt_of_succ_lt h) (by omega)
    rw [outsAt0_B m c ⟨n + 1, h⟩ (by show ¬(n + 1) % 8 = 0; omega) (by show ¬(n + 1) % 8 = 7; omega)]
    dsimp only
    rw [sum_B, cnt_B]
    refine ⟨fun d k => ?_, fun k => ?_⟩
    · rw [point_sum m c ⟨n + 1, h⟩, Finset.sum_range_succ, Finset.sum_range_succ]
      exact congrArg (· + _ + _) (i0 d k)
    · rw [point_cnt m c ⟨n + 1, h⟩, Finset.sum_range_succ, Finset.sum_range_succ]
      exact congrArg (· + _ + _) (i1 k)

/-- The sum over the sixteen row numbers is the sum over the batch rows. -/
theorem sum_rows (g : Fin 16 → EReal) : ∑ b ∈ Finset.range 16, g (row b) = ∑ b : Fin 16, g b := by
  rw [Finset.sum_range]
  exact Finset.sum_congr rfl fun b _ => congrArg g (Fin.ext (Nat.mod_eq_of_lt b.isLt))

/-- The feature sum of class `k`: over all batch rows. -/
def total (f : Vec Ideal S16x2048x128 .f32) (a : Vec Ideal S16x2048x512 .f32) (v : Vec Ideal S16x512 .f32)
    (d : Fin 128) (k : Fin 512) : EReal := ∑ b : Fin 16, rowSum f a v d k b

/-- The count of class `k`: over all batch rows. -/
def count (a : Vec Ideal S16x2048x512 .f32) (v : Vec Ideal S16x512 .f32) (k : Fin 512) : EReal := ∑ b : Fin 16, rowCnt a v k b

/-- The grid has a point 7, its last. -/
theorem last_lt : 7 < cfg0.N := by rw [show cfg0.N = 8 from N_0]; decide

/-- THE ARRAY THE KERNEL LEAVES, at an index. -/
theorem result_apply (k : Fin 512) (d : Fin 128) :
    G5 m c (ix2 k d) = if 0 < count (acts m c) (vids m c) k then
        Ideal.ofBits FTy.f32 0x3F7FBE77#32 * protos m c (ix3 k 0 d)
          + Ideal.ofBits FTy.f32 0x3A83126F#32
            * Ideal.div (total (feats m c) (acts m c) (vids m c) d k) (max (count (acts m c) (vids m c) k) 1)
      else protos m c (ix3 k 0 d) := by
  rw [G5_last, ← outsAt0_sweep m c 7 last_lt, outsAt0_C m c ⟨7, last_lt⟩ (by decide) (by decide)]
  dsimp only
  obtain ⟨i0, i1⟩ := carried m c 6 (Nat.lt_of_succ_lt last_lt) (by decide)
  rw [out_C, pay2_apply, point_sum m c ⟨7, last_lt⟩, point_cnt m c ⟨7, last_lt⟩, iblk4_apply]
  have hs : (outsAt0 m c 6 (Nat.lt_of_succ_lt last_lt)).2.1 (ix2 d k)
      + rowSum (feats m c) (acts m c) (vids m c) d k (row (2 * 7)) + rowSum (feats m c) (acts m c) (vids m c) d k (row (2 * 7 + 1))
      = total (feats m c) (acts m c) (vids m c) d k := by
    rw [i0, total, ← sum_rows, Finset.sum_range_succ _ 15, Finset.sum_range_succ _ 14]
  have hn : (outsAt0 m c 6 (Nat.lt_of_succ_lt last_lt)).2.2 (ix2 0 k)
      + rowCnt (acts m c) (vids m c) k (row (2 * 7)) + rowCnt (acts m c) (vids m c) k (row (2 * 7 + 1))
      = count (acts m c) (vids m c) k := by
    rw [i1, count, ← sum_rows, Finset.sum_range_succ _ 15, Finset.sum_range_succ _ 14]
  rw [← hs, ← hn]

end Cert.KernelIdeal.Update
-- ==== Proof.R.Read.lean ====
/- What the reference computes, at one index. -/
module

public import proofs.«01_k».proof.Proof.Gen.ReferenceIdeal.Run
public import Idealize.ShloMosaic.Lib.Pointwise
public import Idealize.ShloMosaic.Lib.ValueIdx
public import Idealize.ShloMosaic.Lib.IdealHost

@[expose] public section

set_option maxRecDepth 16384

noncomputable section

namespace Cert.ReferenceIdeal.Update

open Cert.ReferenceIdeal Cert.ReferenceIdeal.Gen Idealize.ShloMosaic

/-- The reference's mask, from the activations and the labels. -/
def maskOf (a : FVec Ideal S16x2048x512 .f32) (v : FVec Ideal S16x512 .f32) : FVec Ideal S16x2048x512 .f32 :=
  uitofp .f32 (andi (cmpf .ogt a (broadcastInDim S16x2048x512 ![] bcast_S_S16x2048x512 (constant S_ .f32 0x00000000#32))) (broadcastInDim S16x2048x512 ![0, 1, 2] bcast_S16x1x512_S16x2048x512_0_1_2 (cmpf .ogt (broadcastInDim S16x1x512 ![0, 2] bcast_S16x512_S16x1x512_0_2 v) (broadcastInDim S16x1x512 ![] bcast_S_S16x1x512 (constant S_ .f32 0x00000000#32)))))

/-- The reference's counts. -/
def countOf (a : FVec Ideal S16x2048x512 .f32) (v : FVec Ideal S16x512 .f32) : FVec Ideal S512 .f32 :=
  Host.reduceAdd (maskOf a v) (constant S_ .f32 0x00000000#32) reducesTo_S16x2048x512_S512_d0_1 h_S_

/-- The reference's result, from its four arguments. -/
def resultOf (f : FVec Ideal S16x2048x128 .f32) (a : FVec Ideal S16x2048x512 .f32) (v : FVec Ideal S16x512 .f32)
    (p : FVec Ideal S512x1x128 .f32) : FVec Ideal S512x128 .f32 :=
  shapeCast S512x128 (select (broadcastInDim S512x1x128 ![0, 1, 2] bcast_S512x1x1_S512x1x128_0_1_2 (broadcastInDim S512x1x1 ![0] bcast_S512_S512x1x1_0 (cmpf .ogt (countOf a v) (broadcastInDim S512 ![] bcast_S_S512 (constant S_ .f32 0x00000000#32))))) (addf (mulf (broadcastInDim S512x1x128 ![] bcast_S_S512x1x128 (constant S_ .f32 0x3F7FBE77#32)) p) (mulf (broadcastInDim S512x1x128 ![] bcast_S_S512x1x128 (constant S_ .f32 0x3A83126F#32)) (broadcastInDim S512x1x128 ![0, 2] bcast_S512x128_S512x1x128_0_2 (Host.divf (Host.dotGeneral dot_S16x2048x512_S16x2048x128_S512x128_01_01_2_2_n_n none (maskOf a v) f) (broadcastInDim S512x128 ![0, 1] bcast_S512x1_S512x128_0_1 (broadcastInDim S512x1 ![0] bcast_S512_S512x1_0 (maximumf (countOf a v) (broadcastInDim S512 ![] bcast_S_S512 (constant S_ .f32 0x3F800000#32))))))))) p) shapeCasts_S512x1x128_S512x128

/-- The mask at an index, of activations and labels that are 0 or 1: their product. -/
theorem maskOf_apply (a : FVec Ideal S16x2048x512 .f32) (v : FVec Ideal S16x512 .f32) (b : Fin 16) (t : Fin 2048) (k : Fin 512)
    (ha : a (ix3 b t k) = 0 ∨ a (ix3 b t k) = 1) (hv : v (ix2 b k) = 0 ∨ v (ix2 b k) = 1) :
    maskOf a v (ix3 b t k) = v (ix2 b k) * a (ix3 b t k) := by
  have e : maskOf a v (ix3 b t k) = (((IntOp.andi (BitVec.ofBool (decide (0 < a (ix3 b t k))))
      (BitVec.ofBool (decide (0 < v (ix2 b k))))).toNat : ℝ) : EReal) := by
    unfold maskOf
    pointwise
    rfl
  rw [e]
  rcases ha with ha | ha <;> rcases hv with hv | hv <;> rw [ha, hv] <;> simp [IntOp.andi]

/-- The source indices a sum over the first two axes gathers at class `k`: those whose last coordinate is `k`. -/
theorem gathers (k : Fin 512) (i : S16x2048x512.Idx) :
    reducesTo_S16x2048x512_S512_d0_1.drop i = ix1 k ↔ ∃ q : Fin 16 × Fin 2048, ix3 q.1 q.2 k = i := by
  constructor
  · intro h
    have hk : i 2 = k := congrFun h 0
    exact ⟨(i 0, i 1), by rw [← hk]; exact (eq_ix3 i).symm⟩
  · rintro ⟨q, rfl⟩
    funext x
    match x with
    | ⟨0, _⟩ => rfl

/-- The counts at an index: the mask summed over rows and positions. -/
theorem countOf_apply (a : FVec Ideal S16x2048x512 .f32) (v : FVec Ideal S16x512 .f32) (k : Fin 512) :
    countOf a v (ix1 k) = ∑ b : Fin 16, ∑ t : Fin 2048, maskOf a v (ix3 b t k) := by
  unfold countOf
  pointwise
  unfold Ideal.hostReduceAdd
  rw [zero_add, Finset.sum_filter_eq_sum_of_fiber _ (fun q : Fin 16 × Fin 2048 => ix3 q.1 q.2 k)
    (fun _ _ e => Prod.ext (congrFun e 0) (congrFun e 1)) (gathers k) _, Fintype.sum_prod_type]

/-- The result at an index. -/
theorem resultOf_apply (f : FVec Ideal S16x2048x128 .f32) (a : FVec Ideal S16x2048x512 .f32) (v : FVec Ideal S16x512 .f32)
    (p : FVec Ideal S512x1x128 .f32) (k : Fin 512) (d : Fin 128) :
    resultOf f a v p (ix2 k d) = if 0 < countOf a v (ix1 k) then
        Ideal.ofBits FTy.f32 0x3F7FBE77#32 * p (ix3 k 0 d)
          + Ideal.ofBits FTy.f32 0x3A83126F#32
            * Ideal.div (∑ b : Fin 16, ∑ t : Fin 2048, maskOf a v (ix3 b t k) * f (ix3 b t d)) (max (countOf a v (ix1 k)) 1)
      else p (ix3 k 0 d) := by
  unfold resultOf
  pointwise

end Cert.ReferenceIdeal.Update
-- ==== Proof.Equal.lean ====
/- The kernel's array is the reference's, given activations and labels that are 0 or 1. -/
module

public import proofs.«01_k».proof.Proof.K.Result
public import proofs.«01_k».proof.Proof.R.Read

@[expose] public section

noncomputable section

namespace Cert.Equal

open Cert.KernelIdeal Cert.KernelIdeal.Gen Cert.KernelIdeal.Update Cert.ReferenceIdeal.Update Idealize.ShloMosaic
open Idealize.ShloMosaic.TcCoe

/-- A label that is 0 or 1 goes into a sum of products with activations, whatever the other factors are. -/
theorem label_into {n : ℕ} (v : EReal) (hv : v = 0 ∨ v = 1) (a g : Fin n → EReal) :
    v * ∑ t, g t * a t = ∑ t, v * a t * g t := by
  rcases hv with rfl | rfl
  · simp
  · simp [mul_comm]

/-- The same for a plain sum. -/
theorem label_into_sum {n : ℕ} (v : EReal) (hv : v = 0 ∨ v = 1) (a : Fin n → EReal) : v * ∑ t, a t = ∑ t, v * a t := by
  rcases hv with rfl | rfl <;> simp

variable (f : FVec Ideal S16x2048x128 .f32) (a : FVec Ideal S16x2048x512 .f32) (v : FVec Ideal S16x512 .f32)
  (ha : ∀ (b : Fin 16) (t : Fin 2048) (k : Fin 512), a (ix3 b t k) = 0 ∨ a (ix3 b t k) = 1)
  (hv : ∀ (b : Fin 16) (k : Fin 512), v (ix2 b k) = 0 ∨ v (ix2 b k) = 1)
include ha hv

/-- The kernel's counts are the reference's. -/
theorem count_eq (k : Fin 512) : count a v k = countOf a v (ix1 k) := by
  rw [countOf_apply]
  refine Finset.sum_congr rfl fun b _ => ?_
  rw [rowCnt, label_into_sum _ (hv b k)]
  exact Finset.sum_congr rfl fun t _ => (maskOf_apply a v b t k (ha b t k) (hv b k)).symm

/-- The kernel's feature sums are the reference's. -/
theorem total_eq (d : Fin 128) (k : Fin 512) :
    total f a v d k = ∑ b : Fin 16, ∑ t : Fin 2048, maskOf a v (ix3 b t k) * f (ix3 b t d) := by
  refine Finset.sum_congr rfl fun b _ => ?_
  rw [rowSum, label_into _ (hv b k)]
  exact Finset.sum_congr rfl fun t _ => by rw [maskOf_apply a v b t k (ha b t k) (hv b k)]

omit ha hv in
/-- THE VALUE: the array the kernel leaves is the reference's result of the same arguments. -/
theorem result_eq (m : (ℓ : Loc nD τ sig) → Buf (Elt Ideal) ℓ) (c : Dev nD)
    (ha : ∀ (b : Fin 16) (t : Fin 2048) (k : Fin 512), acts m c (ix3 b t k) = 0 ∨ acts m c (ix3 b t k) = 1)
    (hv : ∀ (b : Fin 16) (k : Fin 512), vids m c (ix2 b k) = 0 ∨ vids m c (ix2 b k) = 1) :
    resultOf (feats m c) (acts m c) (vids m c) (protos m c) = Cert.KernelIdeal.Value.G5 m c := by
  funext j
  obtain ⟨k, d, rfl⟩ : ∃ (k : Fin 512) (d : Fin 128), j = ix2 k d := ⟨j 0, j 1, eq_ix2 j⟩
  rw [resultOf_apply, result_apply, count_eq _ _ ha hv, total_eq _ _ _ ha hv]

end Cert.Equal
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_zero_one
public import proofs.«01_k».proof.Proof.Precondition
public import proofs.«01_k».proof.Proof.Equal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The reference runs to the end and leaves its arguments as they were. -/
theorem frame_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same at memories that meet the precondition. -/
theorem frame_reference_pre : quiescent_ReferenceIdeal_pre_zero_one := fun m ρ _ => frame_reference m ρ trivial

/-- The kernel's result is the reference's, over the extended reals. -/
theorem value : algebraic_KernelIdeal_ReferenceIdeal_pre_zero_one := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, (hagree c).1, (hagree c).2.1, (hagree c).2.2.1, (hagree c).2.2.2]
  obtain ⟨ha, hv⟩ := Cert.Pre_zero_one.holds _ _ _ _ (hpre c)
  exact Cert.Equal.result_eq m c ha hv

/-- Every claim of the certificate. -/
theorem claim : Cert.Claim := ⟨Cert.Kernel.Gen.facts, Cert.KernelIdeal.Gen.facts, Cert.ReferenceIdeal.Gen.facts, Cert.Pre_zero_one.Gen.facts,
  fun m ρ _ => Cert.Kernel.Gen.frame m ρ, fun m ρ _ => Cert.KernelIdeal.Gen.frame m ρ, fun m ρ _ => Cert.KernelIdeal.Gen.frame m ρ, frame_reference, frame_reference_pre, (trivial : preserves_Kernel_KernelIdeal), value⟩

end Cert.Proof

end
